-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x10368 : Shape := ⟨3, ![32, 1, 10368]⟩
abbrev S5184x23168 : Shape := ⟨2, ![5184, 23168]⟩
abbrev S81x23168 : Shape := ⟨2, ![81, 23168]⟩
abbrev S32x10368 : Shape := ⟨2, ![32, 10368]⟩
abbrev S32x23168 : Shape := ⟨2, ![32, 23168]⟩
abbrev S5184x512 : Shape := ⟨2, ![5184, 512]⟩
abbrev S81x512 : Shape := ⟨2, ![81, 512]⟩
abbrev S32x512 : Shape := ⟨2, ![32, 512]⟩
abbrev S128x128 : Shape := ⟨2, ![128, 128]⟩
abbrev S32x128 : Shape := ⟨2, ![32, 128]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S32x1x23168 : Shape := ⟨3, ![32, 1, 23168]⟩

abbrev nBuf : Space → Nat
  | .hbm => 6
  | .vmem => 8
  | .smem => 0
  | _ => 0

abbrev bufTy : (tb : Table) → Fin (tcTables nBuf tb) → BufTy
  | .hbm, ⟨0, _⟩ => ⟨S32x1x10368, .bf16⟩
  | .hbm, ⟨1, _⟩ => ⟨S5184x23168, .i8⟩
  | .hbm, ⟨2, _⟩ => ⟨S81x23168, .bf16⟩
  | .hbm, ⟨3, _⟩ => ⟨S32x10368, .bf16⟩
  | .hbm, ⟨4, _⟩ => ⟨S32x23168, .bf16⟩
  | .hbm, ⟨5, _⟩ => ⟨S32x1x23168, .bf16⟩
  | .local _ .vmem, ⟨0, _⟩ => ⟨S32x10368, .bf16⟩
  | .local _ .vmem, ⟨1, _⟩ => ⟨S5184x512, .i8⟩
  | .local _ .vmem, ⟨2, _⟩ => ⟨S5184x512, .i8⟩
  | .local _ .vmem, ⟨3, _⟩ => ⟨S81x512, .bf16⟩
  | .local _ .vmem, ⟨4, _⟩ => ⟨S81x512, .bf16⟩
  | .local _ .vmem, ⟨5, _⟩ => ⟨S32x512, .bf16⟩
  | .local _ .vmem, ⟨6, _⟩ => ⟨S32x512, .bf16⟩
  | .local _ .vmem, ⟨7, _⟩ => ⟨S32x10368, .bf16⟩
  | _, _ => ⟨S32x1x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![46], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x10368 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5184x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S81x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x10368 : Shape := ⟨3, ![32, 1, 10368]⟩
abbrev S5184x23168 : Shape := ⟨2, ![5184, 23168]⟩
abbrev S81x23168 : Shape := ⟨2, ![81, 23168]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S32x1x81x128 : Shape := ⟨4, ![32, 1, 81, 128]⟩
abbrev S81x64x23168 : Shape := ⟨3, ![81, 64, 23168]⟩
abbrev S81x1x23168 : Shape := ⟨3, ![81, 1, 23168]⟩
abbrev S32x1x5184 : Shape := ⟨3, ![32, 1, 5184]⟩
abbrev S32x1x23168 : Shape := ⟨3, ![32, 1, 23168]⟩

abbrev nBuf : Space → Nat
  | .hbm => 57
  | .vmem => 0
  | .smem => 0
  | _ => 0

abbrev bufTy : (tb : Table) → Fin (tcTables nBuf tb) → BufTy
  | .hbm, ⟨0, _⟩ => ⟨S32x1x10368, .bf16⟩
  | .hbm, ⟨1, _⟩ => ⟨S5184x23168, .i8⟩
  | .hbm, ⟨2, _⟩ => ⟨S81x23168, .bf16⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S32x1x10368, .f32⟩
  | .hbm, ⟨24, _⟩ => ⟨S32x1x81x128, .f32⟩
  | .hbm, ⟨25, _⟩ => ⟨S32x1x81x128, .f32⟩
  | .hbm, ⟨26, _⟩ => ⟨S32x1x10368, .f32⟩
  | .hbm, ⟨27, _⟩ => ⟨S32x1x10368, .bf16⟩
  | .hbm, ⟨28, _⟩ => ⟨S5184x23168, .i8⟩
  | .hbm, ⟨29, _⟩ => ⟨S5184x23168, .i32⟩
  | .hbm, ⟨30, _⟩ => ⟨S_, .i32⟩
  | .hbm, ⟨31, _⟩ => ⟨S5184x23168, .i32⟩
  | .hbm, ⟨32, _⟩ => ⟨S5184x23168, .i32⟩
  | .hbm, ⟨33, _⟩ => ⟨S_, .i32⟩
  | .hbm, ⟨34, _⟩ => ⟨S5184x23168, .i32⟩
  | .hbm, ⟨35, _⟩ => ⟨S5184x23168, .i32⟩
  | .hbm, ⟨36, _⟩ => ⟨S_, .i32⟩
  | .hbm, ⟨37, _⟩ => ⟨S5184x23168, .i32⟩
  | .hbm, ⟨38, _⟩ => ⟨S5184x23168, .i32⟩
  | .hbm, ⟨39, _⟩ => ⟨S5184x23168, .bf16⟩
  | .hbm, ⟨40, _⟩ => ⟨S81x64x23168, .bf16⟩
  | .hbm, ⟨41, _⟩ => ⟨S81x1x23168, .bf16⟩
  | .hbm, ⟨42, _⟩ => ⟨S81x64x23168, .bf16⟩
  | .hbm, ⟨43, _⟩ => ⟨S81x64x23168, .bf16⟩
  | .hbm, ⟨44, _⟩ => ⟨S5184x23168, .bf16⟩
  | .hbm, ⟨45, _⟩ => ⟨S5184x23168, .bf16⟩
  | .hbm, ⟨46, _⟩ => ⟨S81x64x23168, .bf16⟩
  | .hbm, ⟨47, _⟩ => ⟨S81x1x23168, .bf16⟩
  | .hbm, ⟨48, _⟩ => ⟨S81x64x23168, .bf16⟩
  | .hbm, ⟨49, _⟩ => ⟨S81x64x23168, .bf16⟩
  | .hbm, ⟨50, _⟩ => ⟨S5184x23168, .bf16⟩
  | .hbm, ⟨51, _⟩ => ⟨S32x1x5184, .bf16⟩
  | .hbm, ⟨52, _⟩ => ⟨S32x1x23168, .f32⟩
  | .hbm, ⟨53, _⟩ => ⟨S32x1x5184, .bf16⟩
  | .hbm, ⟨54, _⟩ => ⟨S32x1x23168, .f32⟩
  | .hbm, ⟨55, _⟩ => ⟨S32x1x23168, .f32⟩
  | .hbm, ⟨56, _⟩ => ⟨S32x1x23168, .bf16⟩
  | _, _ => ⟨S32x1x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.BitsFrame.lean ====
module

public import proofs.«01_k».proof.Proof.Gen.Kernel.Skeleton
public import proofs.«01_k».proof.Proof.Gen.Kernel.Frame
public import proofs.«01_k».proof.Defs
public import Idealize.ShloMosaic.Lib.Tactic

/-! The kernel at machine floats terminates without fault, leaves its arguments as they were and its semaphores at zero. -/

@[expose] public section

set_option maxRecDepth 65536

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The contents of the buffer behind the memory reference `M` on device `c`. -/
abbrev Bf (c : Dev nD) {sp : Space} {S : Shape} {e : EltTy} (M : Memref sig .tc sp S e) : Type := Buf (Elt F) (M.view.loc (c : Thread nD τ))

/-- Full ownership of the buffer behind `M` at contents `f`. -/
abbrev pt (c : Dev nD) {sp : Space} {S : Shape} {e : EltTy} (M : Memref sig .tc sp S e) (f : Bf (F := F) c M) : sProp 𝕄 :=
  M.view.loc (c : Thread nD τ) ↦{fullShare} f

/-- The body's test "this is grid point 0", as the program computes it. -/
abbrev cond (i : grid0.Coords) : Prop :=
  Scalar.cmpi .ne (Scalar.extui (Scalar.cmpi .eq (BitVec.ofNat 32 (i 0).val) 0#32) : BitVec 32) 0#32 = 1#1

/-- Owning a whole memory reference at what it reads is owning its buffer at contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

variable (c : Dev nD) (i : grid0.Coords)
    (M0 : Memref sig .tc .vmem S32x10368 .bf16) (h0 : M0.IsWhole) (M1 : Memref sig .tc .vmem S5184x512 .i8) (h1 : M1.IsWhole)
    (M2 : Memref sig .tc .vmem S81x512 .bf16) (h2 : M2.IsWhole) (M3 : Memref sig .tc .vmem S32x512 .bf16) (h3 : M3.IsWhole)
    (M4 : Memref sig .tc .vmem S32x10368 .bf16) (h4 : M4.IsWhole)
    (f0 : Bf (F := F) c M0) (f1 : Bf (F := F) c M1) (f2 : Bf (F := F) c M2)

/-- The body runs at any grid point: the three input buffers keep their contents, the result's buffer and the scratch
    end at some contents. -/
theorem run_any (E : Set ℕ) (Q : PUnit → sProp 𝕄) :
    iprop(pt c M0 f0 ∗ pt c M1 f1 ∗ pt c M2 f2 ∗ (∃ f3, pt (F := F) c M3 f3) ∗ (∃ f4, pt (F := F) c M4 f4)
      ∗ (iprop(pt c M0 f0 ∗ pt c M1 f1 ∗ pt c M2 f2 ∗ (∃ f3, pt (F := F) c M3 f3) ∗ (∃ f4, pt (F := F) c M4 f4)) -∗ Q ⟨⟩))
    ⊢ wp frame (wpE (defs₀ (F := F)) Variants.none c none) E
        (cc0__body i M0 h0 M1 h1 M2 h2 M3 h3 M4 h4) Q := by
  by_cases hc : cond i
  all_goals
    iintro ⟨H0, H1, H2, ⟨%f3, H3⟩, ⟨%f4, H4⟩, Hk⟩
    sl_exec_parts!
    sl_step
    iapply Hk
    isplitl [H0]; · iexact H0
    isplitl [H1]; · iexact H1
    isplitl [H2]; · iexact H2
    isplitl [H3]; · iexists _; iexact H3
    iexists _; iexact H4

variable (m : (ℓ : Loc nD τ sig) → Buf (Elt F) ℓ) (ρ : Dev nD → PrngReg)

/-- The result's window, about whose contents the frame says nothing. -/
abbrev fgt : Fin cfg0.W → Bool := fun w => decide (w = 3)

/-- The cut input buffers at their blocks, filled out past the array's end with zero words. -/
@[irreducible] def fill1 (c : Dev nD) (t : Fin cfg0.N) : (cfg0.win 1).block.Idx → Elt F (cfg0.win 1).elt :=
  (cfg0.win 1).fill (cfg0.grid.coords t) (fun _ => (0#8 : BitVec 8)) (iblk m c 1 t)

/-- The scales' buffer, filled out the same way. -/
@[irreducible] def fill2 (c : Dev nD) (t : Fin cfg0.N) : (cfg0.win 2).block.Idx → Elt F (cfg0.win 2).elt :=
  (cfg0.win 2).fill (cfg0.grid.coords t) (fun _ => Scalar.ofBits .bf16 0#16) (iblk m c 2 t)

/-- The part of the filled-out weights' buffer inside the array is the block. -/
theorem cut_fill1 (c : Dev nD) (t : Fin cfg0.N) : (cfg0.win 1).cut (cfg0.grid.coords t) (fill1 m c t) = iblk m c 1 t := by
  unfold fill1; exact Window.cut_fill _ _ _ _

/-- The same of the scales. -/
theorem cut_fill2 (c : Dev nD) (t : Fin cfg0.N) : (cfg0.win 2).cut (cfg0.grid.coords t) (fill2 m c t) = iblk m c 2 t := by
  unfold fill2; exact Window.cut_fill _ _ _ _

/-- The proof data: the arrays at what the launch finds, after the body each input buffer at its block (filled out past
    the array's end with a word nothing reads), the result's forgotten, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fill1 m c t
    | ⟨2, _⟩ => fill2 m c t
    | ⟨3, _⟩ => fun _ => Scalar.ofBits .bf16 0#16
  Φ _ := Pipeline.ΦA spec0 c
  q _ := fullShare
  owed _ := 0

/-- What the body finds in each input buffer: its block, any words past the array's end. -/
theorem before_0 (c : Dev nD) (t : Fin cfg0.N) (d) : (dats m 0 c).before 0 t d = iblk m c 0 t :=
  before0_0_of m (dats m 0 c) rfl (fun _ => rfl) t d

/-- The packed weights' buffer before the body: the block, any words past the array's end. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-- The scales' buffer before the body, likewise. -/
theorem before_2 (c : Dev nD) (t : Fin cfg0.N) (d) :
    (dats m 0 c).before 2 t d = (cfg0.win 2).fill (cfg0.grid.coords t) d (iblk m c 2 t) := by
  unfold Dat.before; rw [if_pos (fetch0_2 t)]; rfl

/-- What the body leaves in the two cut input buffers, on the part inside the array: the block. -/
theorem cut_after_1 (c : Dev nD) (t : Fin cfg0.N) : (cfg0.win 1).cut (cfg0.grid.coords t) ((dats m 0 c).after 1 t) = iblk m c 1 t :=
  cut_fill1 m c t

/-- The same of the scales. -/
theorem cut_after_2 (c : Dev nD) (t : Fin cfg0.N) : (cfg0.win 2).cut (cfg0.grid.coords t) ((dats m 0 c).after 2 t) = iblk m c 2 t :=
  cut_fill2 m c t

/-- At every grid point the body keeps the input buffers and hands back the scratch and the result's buffer. -/
theorem body_obligation (c : Dev nD) : BodyObligationLoose (dats m 0 c) (defs₀ (F := F)) Variants.none () Set.univ fgt := fun t => by
  rw [bigSep_W0, bigSep_W0]
  simp only [fgt, decide_true, Fin.reduceEq, decide_false]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA
  rw [scopedRest0_eq]
  iintro ⟨⟨Hs, Hg⟩, Ho, ⟨%d0, H0⟩, ⟨%d1, H1⟩, ⟨%d2, H2⟩, ⟨%X3, H3⟩⟩
  rw [before_0, before_1, before_2]
  ihave H0 := (Entails.of_eq (owns_eq_pt c (st0_0 t) (hstage0_0 ((cfg0.slots t 0).cast nbuf0_0)) _)) $$ H0
  ihave H1 := (Entails.of_eq (owns_eq_pt c (st0_1 t) (hstage0_1 ((cfg0.slots t 1).cast nbuf0_1)) _)) $$ H1
  ihave H2 := (Entails.of_eq (owns_eq_pt c (st0_2 t) (hstage0_2 ((cfg0.slots t 2).cast nbuf0_2)) _)) $$ H2
  ihave H3 := (Entails.of_eq (owns_eq_pt c (st0_3 t) (hstage0_3 ((cfg0.slots t 3).cast nbuf0_3)) _)) $$ H3
  icases H0 with ⟨%f0, %e0, H0⟩
  icases H1 with ⟨%f1, %e1, H1⟩
  icases H2 with ⟨%f2, %e2, H2⟩
  icases H3 with ⟨%f3, %e3, H3⟩
  iapply (run_any c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) f0 f1 f2)
  isplitl [H0]; · iexact H0
  isplitl [H1]; · iexact H1
  isplitl [H2]; · iexact H2
  isplitl [H3]; · iexists f3; iexact H3
  isplitl [Hs]; · iexact Hs
  iintro ⟨H0, H1, H2, ⟨%g3, H3⟩, Hs⟩
  isplitl [Hs Hg]
  · isplitl [Hs]; · iexact Hs
    iexact Hg
  isplitl [Ho]; · iexact Ho
  isplitl [H0]
  · ihave H0 := (Entails.of_eq (owns_eq_pt c (st0_0 t) (hstage0_0 ((cfg0.slots t 0).cast nbuf0_0)) _).symm) $$ [H0]
    · iexists f0; isplitr; · ipureintro; exact e0
      iexact H0
    iexact H0
  isplitl [H1]
  · iexists d1
    change _ ⊢ owns (c : Thread nD τ) (st0_1 t) fullShare ((cfg0.win 1).fill (cfg0.grid.coords t) d1 ((cfg0.win 1).cut (cfg0.grid.coords t) ((dats m 0 c).after 1 t)))
    rw [cut_after_1, owns_eq_pt c (st0_1 t) (hstage0_1 ((cfg0.slots t 1).cast nbuf0_1))]
    iintro H1
    iexists f1; isplitr; · ipureintro; exact e1
    iexact H1
  isplitl [H2]
  · iexists d2
    change _ ⊢ owns (c : Thread nD τ) (st0_2 t) fullShare ((cfg0.win 2).fill (cfg0.grid.coords t) d2 ((cfg0.win 2).cut (cfg0.grid.coords t) ((dats m 0 c).after 2 t)))
    rw [cut_after_2, owns_eq_pt c (st0_2 t) (hstage0_2 ((cfg0.slots t 2).cast nbuf0_2))]
    iintro H2
    iexists f2; isplitr; · ipureintro; exact e2
    iexact H2
  · iexists _
    change _ ⊢ owns (c : Thread nD τ) (st0_3 t) fullShare _
    rw [owns_eq_pt c (st0_3 t) (hstage0_3 ((cfg0.slots t 3).cast nbuf0_3))]
    iintro H3
    iexists g3; isplitr; · ipureintro; rfl
    iexact H3

/-- The buffers the lines after the call write: the reshaped result alone. -/
abbrev tailSet : Finset (Ref sig .tc) := {main_v2}

/-- From any memory with zero counters the program runs to its end; the arguments end as they were and every counter is
    zero again. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) 0 launch0 defs₀ Variants.none fgt tailSet m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      by_contra hne
      exact StableHlo.devRef_ne_of_ne (fun e => hne (by rw [e]; exact Finset.mem_singleton_self _)) hb)
    (hmain := hmain m Variants.none) (hA := fun _ _ => rfl) (hΦ := fun _ _ => rfl)
    (Q' := _) (hQ' := fun r h => ⟨fun c => ⟨((h.1 c).2 main_arg0 (Finset.mem_sdiff.mpr ⟨Pipeline.mem_restRefs_of main_arg0 (by decide) (by decide), by decide⟩)).trans (V_main_arg0 m c),
      (RDat.FramePostR.arr_in h.1 c 1 rfl).trans (V_main_arg1 m c),
      (RDat.FramePostR.arr_in h.1 c 2 rfl).trans (V_main_arg2 m c)⟩, h.2⟩)

/-- The frame claim of the program as printed, at the bit-exact instance. -/
theorem frame : Cert.quiescent_Kernel := fun m ρ _ => run_frame (F := Bits) m ρ

end Cert.Kernel.Body

end
-- ==== Proof.Body.lean ====
module

public import proofs.«01_k».proof.Proof.Gen.KernelIdeal.Skeleton
public import proofs.«01_k».proof.Proof.Gen.KernelIdeal.Frame
public import Idealize.ShloMosaic.Lib.Tactic

/-! The body run once at the first grid point and once at a later one, from any buffer contents. -/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the buffer behind a memref on device `c`. -/
abbrev Bf (c : Dev nD) {sp : Space} {S : Shape} {e : EltTy} (M : Memref sig .tc sp S e) : Type := Buf (Elt F) (M.view.loc (c : Thread nD τ))

/-- Full ownership of that buffer at contents `f`. -/
abbrev pt (c : Dev nD) {sp : Space} {S : Shape} {e : EltTy} (M : Memref sig .tc sp S e) (f : Bf (F := F) c M) : sProp 𝕄 :=
  M.view.loc (c : Thread nD τ) ↦{fullShare} f

/-- The body's test for grid point 0, as the program computes it. -/
abbrev cond (i : grid0.Coords) : Prop :=
  Scalar.cmpi .ne (Scalar.extui (Scalar.cmpi .eq (BitVec.ofNat 32 (i 0).val) 0#32) : BitVec 32) 0#32 = 1#1

/-- The body run at a grid point after the first: the scratch is read, and the result's buffer ends at contents that do not depend on what it held. -/
noncomputable def laterRun (c : Dev nD) (i : grid0.Coords) (hc : ¬ cond i)
    (M0 : Memref sig .tc .vmem S32x10368 .bf16) (h0 : M0.IsWhole) (M1 : Memref sig .tc .vmem S5184x512 .i8) (h1 : M1.IsWhole)
    (M2 : Memref sig .tc .vmem S81x512 .bf16) (h2 : M2.IsWhole) (M3 : Memref sig .tc .vmem S32x512 .bf16) (h3 : M3.IsWhole)
    (M4 : Memref sig .tc .vmem S32x10368 .bf16) (h4 : M4.IsWhole)
    (f0 : Bf (F := F) c M0) (f1 : Bf (F := F) c M1) (f2 : Bf (F := F) c M2) (f4 : Bf (F := F) c M4) :
    { W : Bf (F := F) c M3 //
      ∀ (f3 : Bf (F := F) c M3) (E : Set ℕ) (Q : PUnit → sProp 𝕄),
        iprop(pt c M0 f0 ∗ pt c M1 f1 ∗ pt c M2 f2 ∗ pt c M3 f3 ∗ pt c M4 f4
          ∗ (iprop(pt c M0 f0 ∗ pt c M1 f1 ∗ pt c M2 f2 ∗ pt c M3 W ∗ pt c M4 f4) -∗ Q ⟨⟩))
        ⊢ wp frame (wpE (defs₀ (F := F)) Variants.none c none) E
            (cc0__body i M0 h0 M1 h1 M2 h2 M3 h3 M4 h4) Q } := by
  refine ⟨?_, fun f3 E Q => ?run⟩
  case run =>
    iintro ⟨H0, H1, H2, H3, H4, Hk⟩
    sl_exec_parts!
    sl_step
    iapply Hk
    isplitl [H0]; · iexact H0
    isplitl [H1]; · iexact H1
    isplitl [H2]; · iexact H2
    isplitl [H3]; · iexact H3
    iexact H4

/-- The body run at grid point 0: the scratch is written first, so what it and the result's buffer end at depends on the inputs alone. -/
noncomputable def firstRun (c : Dev nD) (i : grid0.Coords) (hc : cond i)
    (M0 : Memref sig .tc .vmem S32x10368 .bf16) (h0 : M0.IsWhole) (M1 : Memref sig .tc .vmem S5184x512 .i8) (h1 : M1.IsWhole)
    (M2 : Memref sig .tc .vmem S81x512 .bf16) (h2 : M2.IsWhole) (M3 : Memref sig .tc .vmem S32x512 .bf16) (h3 : M3.IsWhole)
    (M4 : Memref sig .tc .vmem S32x10368 .bf16) (h4 : M4.IsWhole)
    (f0 : Bf (F := F) c M0) (f1 : Bf (F := F) c M1) (f2 : Bf (F := F) c M2) :
    { W : Bf (F := F) c M3 × Bf (F := F) c M4 //
      ∀ (f3 : Bf (F := F) c M3) (f4 : Bf (F := F) c M4) (E : Set ℕ) (Q : PUnit → sProp 𝕄),
        iprop(pt c M0 f0 ∗ pt c M1 f1 ∗ pt c M2 f2 ∗ pt c M3 f3 ∗ pt c M4 f4
          ∗ (iprop(pt c M0 f0 ∗ pt c M1 f1 ∗ pt c M2 f2 ∗ pt c M3 W.1 ∗ pt c M4 W.2) -∗ Q ⟨⟩))
        ⊢ wp frame (wpE (defs₀ (F := F)) Variants.none c none) E
            (cc0__body i M0 h0 M1 h1 M2 h2 M3 h3 M4 h4) Q } := by
  refine ⟨⟨?_, ?_⟩, fun f3 f4 E Q => ?run⟩
  case run =>
    iintro ⟨H0, H1, H2, H3, H4, Hk⟩
    sl_exec_parts!
    sl_step
    iapply Hk
    isplitl [H0]; · iexact H0
    isplitl [H1]; · iexact H1
    isplitl [H2]; · iexact H2
    isplitl [H3]; · iexact H3
    iexact H4

end Cert.KernelIdeal.Body

end
-- ==== Proof.Spec.lean ====
module

public import proofs.«01_k».proof.Proof.Body

/-! What the body computes, group by group: the rectangles it reads, one group's step, the accumulator, the rotation, and
    that the pieces its run writes are these. -/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open Idealize.ShloMosaic.Rounds

variable {F : FTy → Type} [FloatOps F]

/-- Columns `128 g` to `128 g + 127` of the activations. -/
def rX (g : Fin 81) : Rect S32x10368 := Rect.unit (s := S32x10368) ![0, 128 * g.val] S32x128.size
  (Fin.forall_fin_two.mpr ⟨Nat.le_refl 32, show 128 * g.val + 128 ≤ 10368 by have := g.isLt; omega⟩)

/-- Rows `64 g` to `64 g + 63` of a block of packed weights. -/
def rW (g : Fin 81) : Rect S5184x512 := Rect.unit (s := S5184x512) ![64 * g.val, 0] S64x512.size
  (Fin.forall_fin_two.mpr ⟨show 64 * g.val + 64 ≤ 5184 by have := g.isLt; omega, Nat.le_refl 512⟩)

/-- Row `g` of a block of scales. -/
def rS (g : Fin 81) : Rect S81x512 := Rect.unit (s := S81x512) ![g.val, 0] S1x512.size
  (Fin.forall_fin_two.mpr ⟨show g.val + 1 ≤ 81 from g.isLt, Nat.le_refl 512⟩)

/-- The signed 4-bit codes of packed bytes, low half and high half of each byte in turn down the rows. -/
def nib (w : IVec S64x512 8) : IVec S128x512 4 :=
  trunci 4 (shapeCast S128x512 (concatenate S64x2x512 1
    [⟨S64x1x512, shapeCast S64x1x512 (shrsi (shli (extui 32 w natLt_8_32) (broadcast S64x512 28#32)) (broadcast S64x512 28#32)) shapeCasts_S64x512_S64x1x512⟩,
     ⟨S64x1x512, shapeCast S64x1x512 (shrsi (shli (extui 32 w natLt_8_32) (broadcast S64x512 24#32)) (broadcast S64x512 28#32)) shapeCasts_S64x512_S64x1x512⟩]
    concatenates_S64x1x512_S64x1x512_S64x2x512_d1) shapeCasts_S64x2x512_S128x512) natLt_4_32

/-- One group's contribution added to the accumulator. -/
def step (acc : FVec F S32x512 .f32) (w : Vec F S64x512 .i8) (s : Vec F S1x512 .bf16) (x : Vec F S32x128 .bf16) : FVec F S32x512 .f32 :=
  addf acc (matmul dot_S32x128_S128x512_S32x512_1_0_0_1_n_n none x
    (mulf (sitofp .bf16 (nib w)) (broadcastTo S128x512 s broadcasts_S1x512_S128x512)) (constant S32x512 .f32 0x00000000#32))

/-- The accumulator after the first `n` groups. -/
def acc (W : S5184x512.Idx → Elt F .i8) (S : S81x512.Idx → Elt F .bf16) (X : S32x10368.Idx → Elt F .bf16) :
    (n : ℕ) → n ≤ 81 → FVec F S32x512 .f32
  | 0, _ => broadcast S32x512 (Scalar.ofBits .f32 0x00000000#32)
  | n + 1, h => step (acc W S X n (Nat.le_of_succ_le h)) (fun j => W ((rW ⟨n, h⟩).toLoadRect.idx j)) (fun j => S ((rS ⟨n, h⟩).toLoadRect.idx j))
      (fun j => X ((rX ⟨n, h⟩).toLoadRect.idx j))

/-- The block of results: the accumulator after all groups, narrowed. -/
def outF (W : S5184x512.Idx → Elt F .i8) (S : S81x512.Idx → Elt F .bf16) (X : S32x10368.Idx → Elt F .bf16) : FVec F S32x512 .bf16 :=
  truncf .bf16 (acc W S X 81 (Nat.le_refl 81)) bitsLt_bf16_f32

/-- A block of activations times the Hadamard matrix, narrowed. -/
def rot (x : Vec F S32x128 .bf16) : FVec F S32x128 .bf16 :=
  shapeCast S32x128 (truncf .bf16 (matmul dot_S32x128_S128x128_S32x128_1_0_0_1_n_n none
    (extf .f32 (shapeCast S32x128 x shapeCasts_S32x128_S32x128) bitsLt_bf16_f32) (k0_pay2 (F := F)) (constant S32x128 .f32 0x00000000#32))
    bitsLt_bf16_f32) shapeCasts_S32x128_S32x128

/-- The first `n` pieces the body writes to the scratch at grid point 0, the last one first. -/
def pcs (X : S32x10368.Idx → Elt F .bf16) : (n : ℕ) → n ≤ 81 → List (View.Piece (Elt F) S32x10368 .bf16)
  | 0, _ => []
  | n + 1, h => ⟨rX ⟨n, h⟩, rot fun j => X ((rX ⟨n, h⟩).toLoadRect.idx j)⟩ :: pcs X n (Nat.le_of_succ_le h)

/-- The rectangle that is the whole block embeds every index as itself. -/
theorem emb_whole (y : S32x512.Idx) : (Rect.unit (s := S32x512) ![0, 0] S32x512.size inb_S32x512_S32x512_0_0).emb y = y :=
  Rect.emb_eq_of_coords _ _ _ fun a => by
    match a with
    | ⟨0, _⟩ => exact (show (y 0).val = 0 + 1 * (y 0).val by omega)
    | ⟨1, _⟩ => exact (show (y 1).val = 0 + 1 * (y 1).val by omega)

set_option maxRecDepth 65536 in
/-- After the first point, the one piece written to the result's buffer is `outF` of what the buffers hold. -/
theorem later_pcs (c : Dev nD) (M1 : Memref sig .tc .vmem S5184x512 .i8) (M2 : Memref sig .tc .vmem S81x512 .bf16)
    (M4 : Memref sig .tc .vmem S32x10368 .bf16) (f1 : Bf (F := F) c M1) (f2 : Bf (F := F) c M2) (f4 : Bf (F := F) c M4) :
    laterRun.sl.H3_1 c M1 M2 M4 f1 f2 f4
      = [⟨Rect.unit (s := S32x512) ![0, 0] S32x512.size inb_S32x512_S32x512_0_0,
          outF (M1.view.read (Elt F) f1) (M2.view.read (Elt F) f2) (M4.view.read (Elt F) f4)⟩] := rfl

set_option maxRecDepth 65536 in
/-- At the first point the pieces written to the scratch are `pcs` of the activations. -/
theorem first_pcs (c : Dev nD) (M0 : Memref sig .tc .vmem S32x10368 .bf16) (f0 : Bf (F := F) c M0) :
    firstRun.sl.H4_81 c M0 f0 = pcs (M0.view.read (Elt F) f0) 81 (Nat.le_refl 81) := rfl

set_option maxRecDepth 65536 in
/-- At the first point the piece written to the result's buffer is `outF`, the activations read from the scratch just written. -/
theorem first_out (c : Dev nD) (M0 : Memref sig .tc .vmem S32x10368 .bf16) (M1 : Memref sig .tc .vmem S5184x512 .i8) (M2 : Memref sig .tc .vmem S81x512 .bf16)
    (M4 : Memref sig .tc .vmem S32x10368 .bf16) (f0 : Bf (F := F) c M0) (f1 : Bf (F := F) c M1) (f2 : Bf (F := F) c M2) :
    firstRun.sl.H3_1 c M0 M1 M2 M4 f0 f1 f2
      = [⟨Rect.unit (s := S32x512) ![0, 0] S32x512.size inb_S32x512_S32x512_0_0,
          outF (M1.view.read (Elt F) f1) (M2.view.read (Elt F) f2)
            (M4.view.read (Elt F) (M4.view.writes (Elt F) M4.view.junk (firstRun.sl.H4_81 c M0 f0)))⟩] := rfl

end Cert.KernelIdeal.Body

end
-- ==== Proof.Spec2.lean ====
module

public import proofs.«01_k».proof.Proof.Spec
public import Idealize.ShloMosaic.Lib.Pointwise

/-! The rotated activations as one array, and that the scratch reads back as it. -/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block of 128 columns that column `k` lies in. -/
def blkOf (k : Fin 10368) : Fin 81 := ⟨k.val / 128, by have := k.isLt; omega⟩

/-- Its place inside that block. -/
def inBlk (k : Fin 10368) : Fin 128 := ⟨k.val % 128, by omega⟩

/-- The rotated activations: every block of 128 columns rotated on its own. -/
def xrot (X : S32x10368.Idx → Elt F .bf16) : S32x10368.Idx → Elt F .bf16 := fun y =>
  rot (fun j => X ((rX (blkOf (y 1))).toLoadRect.idx j)) (ix2 (y 0) (inBlk (y 1)))

/-- Each piece of the first point's list is the rotated activations read through its rectangle. -/
theorem pcs_eq (X : S32x10368.Idx → Elt F .bf16) : ∀ (n : ℕ) (h : n ≤ 81), ∀ p ∈ pcs X n h, ∀ x : p.1.shape.Idx, p.2 x = xrot X (p.1.emb x)
  | 0, _, p, hp, _ => absurd hp List.not_mem_nil
  | n + 1, h, p, hp, x => by
    rcases List.mem_cons.mp hp with rfl | hp
    · have h1 : (x 1).val < 128 := (x 1).isLt
      have hv : (((rX ⟨n, h⟩).emb x) 1).val = 128 * n + (x 1).val := by
        show 128 * n + 1 * (x 1).val = _; omega
      have hb : blkOf (((rX ⟨n, h⟩).emb x) 1) = ⟨n, h⟩ := Fin.ext (by show _ / 128 = n; rw [hv]; omega)
      have hx : ix2 (((rX ⟨n, h⟩).emb x) 0) (inBlk (((rX ⟨n, h⟩).emb x) 1)) = (x : S32x128.Idx) := by
        funext a
        match a with
        | ⟨0, _⟩ => exact Fin.ext (show 0 + 1 * (x 0).val = (x 0).val by omega)
        | ⟨1, _⟩ => exact Fin.ext (show _ % 128 = (x 1).val by rw [hv]; omega)
      have key : ∀ (g : Fin 81) (_ : g = ⟨n, h⟩) (x' x'' : S32x128.Idx) (_ : x' = x''),
          rot (fun j => X ((rX ⟨n, h⟩).toLoadRect.idx j)) x'' = rot (fun j => X ((rX g).toLoadRect.idx j)) x' := by
        rintro _ rfl _ _ rfl; rfl
      exact key _ hb _ _ hx
    · exact pcs_eq X n (Nat.le_of_succ_le h) p hp x

/-- The pieces of the first `n` blocks cover every column below `128 n`. -/
theorem pcs_cover (X : S32x10368.Idx → Elt F .bf16) (y : S32x10368.Idx) : ∀ (n : ℕ) (h : n ≤ 81), (y 1).val < 128 * n → ∃ p ∈ pcs X n h, y ∈ p.1.set
  | 0, _, hy => by omega
  | n + 1, h, hy => by
    by_cases hlt : (y 1).val < 128 * n
    · obtain ⟨p, hp, hm⟩ := pcs_cover X y n (Nat.le_of_succ_le h) hlt
      exact ⟨p, List.mem_cons_of_mem _ hp, hm⟩
    · refine ⟨_, List.mem_cons_self, ?_⟩
      show y ∈ (rX ⟨n, h⟩).set
      rw [rX, Rect.mem_set_unit]
      intro a
      match a with
      | ⟨0, _⟩ => exact ⟨Nat.zero_le _, show (y 0).val < 0 + 32 by have : (y 0).val < 32 := (y 0).isLt; omega⟩
      | ⟨1, _⟩ => exact ⟨show 128 * n ≤ (y 1).val by omega, show (y 1).val < 128 * n + 128 by omega⟩

/-- After the first point the scratch reads the rotated activations. -/
theorem scratch_read (c : Dev nD) (M0 M4 : Memref sig .tc .vmem S32x10368 .bf16) (f0 : Bf (F := F) c M0) :
    M4.view.read (Elt F) (M4.view.writes (Elt F) M4.view.junk (firstRun.sl.H4_81 c M0 f0)) = xrot (M0.view.read (Elt F) f0) := by
  funext y
  rw [first_pcs]
  exact View.read_writes_apply_of_pieces _ _ (xrot (M0.view.read (Elt F) f0)) _ (pcs_eq _ 81 (Nat.le_refl 81)) y
    (pcs_cover _ y 81 (Nat.le_refl 81) (show (y 1).val < 10368 from (y 1).isLt))

/-- One write of a whole result block reads as that block. -/
theorem whole_read {sp : Space} (M3 : Memref sig .tc sp S32x512 .bf16) (f : M3.view.ty.Contents (Elt F)) (Z : S32x512.Idx → Elt F .bf16) :
    M3.view.read (Elt F) (M3.view.writes (Elt F) f [⟨Rect.unit (s := S32x512) ![0, 0] S32x512.size inb_S32x512_S32x512_0_0, Z⟩]) = Z := by
  funext y
  refine View.read_writes_apply_of_pieces _ _ Z _ (fun p hp x => ?_) y ⟨_, List.mem_singleton.mpr rfl, ?_⟩
  · obtain rfl := List.mem_singleton.mp hp
    exact congrArg Z (emb_whole x).symm
  · show y ∈ (Rect.unit (s := S32x512) ![0, 0] S32x512.size inb_S32x512_S32x512_0_0).set
    rw [Rect.mem_set_unit]
    intro a
    match a with
    | ⟨0, _⟩ => exact ⟨Nat.zero_le _, show (y 0).val < 0 + 32 by have : (y 0).val < 32 := (y 0).isLt; omega⟩
    | ⟨1, _⟩ => exact ⟨Nat.zero_le _, show (y 1).val < 0 + 512 by have : (y 1).val < 512 := (y 1).isLt; omega⟩

/-- Owning a whole memory reference at what it reads is owning its buffer at contents that read so. -/
theorem owns_eq_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

end Cert.KernelIdeal.Body

end
-- ==== Proof.Spec3.lean ====
module

public import proofs.«01_k».proof.Proof.Spec2
public import Idealize.ShloMosaic.Lib.Pointwise

/-! The body at the first grid point and at a later one, from what its buffers read to what they read afterwards. -/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
    (M0 : Memref sig .tc .vmem S32x10368 .bf16) (h0 : M0.IsWhole) (M1 : Memref sig .tc .vmem S5184x512 .i8) (h1 : M1.IsWhole)
    (M2 : Memref sig .tc .vmem S81x512 .bf16) (h2 : M2.IsWhole) (M3 : Memref sig .tc .vmem S32x512 .bf16) (h3 : M3.IsWhole)
    (M4 : Memref sig .tc .vmem S32x10368 .bf16) (h4 : M4.IsWhole)
    (X0 : S32x10368.Idx → Elt F .bf16) (X1 : S5184x512.Idx → Elt F .i8) (X2 : S81x512.Idx → Elt F .bf16)

/-- The contents the first run ends at are those of its pieces. -/
theorem first_w (hc : cond i) (f0 : Bf (F := F) c M0) (f1 : Bf (F := F) c M1) (f2 : Bf (F := F) c M2) :
    (firstRun c i hc M0 h0 M1 h1 M2 h2 M3 h3 M4 h4 f0 f1 f2).1
      = (M3.view.writes (Elt F) M3.view.junk (firstRun.sl.H3_1 c M0 M1 M2 M4 f0 f1 f2),
         M4.view.writes (Elt F) M4.view.junk (firstRun.sl.H4_81 c M0 f0)) := by
  unfold firstRun
  rfl

/-- The same of a later run. -/
theorem later_w (hc : ¬ cond i) (f0 : Bf (F := F) c M0) (f1 : Bf (F := F) c M1) (f2 : Bf (F := F) c M2) (f4 : Bf (F := F) c M4) :
    (laterRun c i hc M0 h0 M1 h1 M2 h2 M3 h3 M4 h4 f0 f1 f2 f4).1
      = M3.view.writes (Elt F) M3.view.junk (laterRun.sl.H3_1 c M1 M2 M4 f1 f2 f4) := by
  unfold laterRun
  rfl

/-- The run at grid point 0, from named contents: what the result's buffer and the scratch end at, by what they read. -/
theorem first_run (hc : cond i) (f0 : Bf (F := F) c M0) (f1 : Bf (F := F) c M1) (f2 : Bf (F := F) c M2) :
    ∃ (W3 : Bf (F := F) c M3) (W4 : Bf (F := F) c M4),
      M3.view.read (Elt F) W3 = outF (M1.view.read (Elt F) f1) (M2.view.read (Elt F) f2) (xrot (M0.view.read (Elt F) f0))
      ∧ M4.view.read (Elt F) W4 = xrot (M0.view.read (Elt F) f0)
      ∧ ∀ (f3 : Bf (F := F) c M3) (f4 : Bf (F := F) c M4) (E : Set ℕ) (Q : PUnit → sProp 𝕄),
        iprop(pt c M0 f0 ∗ pt c M1 f1 ∗ pt c M2 f2 ∗ pt c M3 f3 ∗ pt c M4 f4
          ∗ (iprop(pt c M0 f0 ∗ pt c M1 f1 ∗ pt c M2 f2 ∗ pt c M3 W3 ∗ pt c M4 W4) -∗ Q ⟨⟩))
        ⊢ wp frame (wpE (defs₀ (F := F)) Variants.none c none) E
            (cc0__body i M0 h0 M1 h1 M2 h2 M3 h3 M4 h4) Q := by
  have h := (firstRun c i hc M0 h0 M1 h1 M2 h2 M3 h3 M4 h4 f0 f1 f2).2
  rw [first_w] at h
  refine ⟨_, _, ?_, ?_, h⟩
  · rw [first_out, whole_read, scratch_read]
  · rw [scratch_read]

/-- The run at a later grid point, from named contents. -/
theorem later_run (hc : ¬ cond i) (f0 : Bf (F := F) c M0) (f1 : Bf (F := F) c M1) (f2 : Bf (F := F) c M2) (f4 : Bf (F := F) c M4) :
    ∃ (W3 : Bf (F := F) c M3),
      M3.view.read (Elt F) W3 = outF (M1.view.read (Elt F) f1) (M2.view.read (Elt F) f2) (M4.view.read (Elt F) f4)
      ∧ ∀ (f3 : Bf (F := F) c M3) (E : Set ℕ) (Q : PUnit → sProp 𝕄),
        iprop(pt c M0 f0 ∗ pt c M1 f1 ∗ pt c M2 f2 ∗ pt c M3 f3 ∗ pt c M4 f4
          ∗ (iprop(pt c M0 f0 ∗ pt c M1 f1 ∗ pt c M2 f2 ∗ pt c M3 W3 ∗ pt c M4 f4) -∗ Q ⟨⟩))
        ⊢ wp frame (wpE (defs₀ (F := F)) Variants.none c none) E
            (cc0__body i M0 h0 M1 h1 M2 h2 M3 h3 M4 h4) Q := by
  have h := (laterRun c i hc M0 h0 M1 h1 M2 h2 M3 h3 M4 h4 f0 f1 f2 f4).2
  rw [later_w] at h
  refine ⟨_, ?_, h⟩
  rw [later_pcs, whole_read]

/-- The body at grid point 0, from buffers reading `X0`, `X1`, `X2`: the scratch ends reading the rotated activations and
    the result's buffer their product with the dequantized block. -/
theorem sound_first (hc : cond i) (E : Set ℕ) (Q : PUnit → sProp 𝕄) :
    iprop(owns (c : Thread nD τ) M0 fullShare X0 ∗ owns (c : Thread nD τ) M1 fullShare X1 ∗ owns (c : Thread nD τ) M2 fullShare X2
      ∗ (∃ X3, owns (c : Thread nD τ) M3 fullShare X3) ∗ (∃ X4, owns (c : Thread nD τ) M4 fullShare X4)
      ∗ (iprop(owns (c : Thread nD τ) M0 fullShare X0 ∗ owns (c : Thread nD τ) M1 fullShare X1 ∗ owns (c : Thread nD τ) M2 fullShare X2
          ∗ owns (c : Thread nD τ) M3 fullShare (outF X1 X2 (xrot X0)) ∗ owns (c : Thread nD τ) M4 fullShare (xrot X0)) -∗ Q ⟨⟩))
    ⊢ wp frame (wpE (defs₀ (F := F)) Variants.none c none) E
        (cc0__body i M0 h0 M1 h1 M2 h2 M3 h3 M4 h4) Q := by
  simp only [owns_eq_pt c M0 h0, owns_eq_pt c M1 h1, owns_eq_pt c M2 h2, owns_eq_pt c M3 h3, owns_eq_pt c M4 h4]
  iintro ⟨⟨%f0, %e0, H0⟩, ⟨%f1, %e1, H1⟩, ⟨%f2, %e2, H2⟩, ⟨%X3, %f3, %e3, H3⟩, ⟨%X4, %f4, %e4, H4⟩, Hk⟩
  obtain ⟨W3, W4, hW3, hW4, hrun⟩ := first_run c i M0 h0 M1 h1 M2 h2 M3 h3 M4 h4 hc f0 f1 f2
  iapply (hrun f3 f4 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists W3; isplitr; · ipureintro; rw [hW3, e0, e1, e2]
    iexact H3
  · iexists W4; isplitr; · ipureintro; rw [hW4, e0]
    iexact H4

/-- The body at a later grid point, the scratch reading `X4`: the scratch is kept, the result's buffer ends at the
    product of `X4` with the dequantized block. -/
theorem sound_later (hc : ¬ cond i) (X4 : S32x10368.Idx → Elt F .bf16) (E : Set ℕ) (Q : PUnit → sProp 𝕄) :
    iprop(owns (c : Thread nD τ) M0 fullShare X0 ∗ owns (c : Thread nD τ) M1 fullShare X1 ∗ owns (c : Thread nD τ) M2 fullShare X2
      ∗ (∃ X3, owns (c : Thread nD τ) M3 fullShare X3) ∗ owns (c : Thread nD τ) M4 fullShare X4
      ∗ (iprop(owns (c : Thread nD τ) M0 fullShare X0 ∗ owns (c : Thread nD τ) M1 fullShare X1 ∗ owns (c : Thread nD τ) M2 fullShare X2
          ∗ owns (c : Thread nD τ) M3 fullShare (outF X1 X2 X4) ∗ owns (c : Thread nD τ) M4 fullShare X4) -∗ Q ⟨⟩))
    ⊢ wp frame (wpE (defs₀ (F := F)) Variants.none c none) E
        (cc0__body i M0 h0 M1 h1 M2 h2 M3 h3 M4 h4) Q := by
  simp only [owns_eq_pt c M0 h0, owns_eq_pt c M1 h1, owns_eq_pt c M2 h2, owns_eq_pt c M3 h3, owns_eq_pt c M4 h4]
  iintro ⟨⟨%f0, %e0, H0⟩, ⟨%f1, %e1, H1⟩, ⟨%f2, %e2, H2⟩, ⟨%X3, %f3, %e3, H3⟩, ⟨%f4, %e4, H4⟩, Hk⟩
  obtain ⟨W3, hW3, hrun⟩ := later_run c i M0 h0 M1 h1 M2 h2 M3 h3 M4 h4 hc f0 f1 f2 f4
  iapply (hrun f3 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists W3; isplitr; · ipureintro; rw [hW3, e1, e2, e4]
    iexact H3
  · iexists f4; isplitr; · ipureintro; exact e4
    iexact H4

end Cert.KernelIdeal.Body

end
-- ==== Proof.Math.lean ====
module

public import Idealize.ShloMosaic.Lib.Pointwise
public import Idealize.ShloMosaic.Lib.Tactic

/-! The problem in plain sums over the extended reals, and the two ways of splitting the sum over the columns. -/

@[expose] public section

noncomputable section

namespace Cert.Math

open Idealize.ShloMosaic

/-- Entry `(i, j)` of the scaled Hadamard matrix of order 128: the sign `(-1)^popcount(i & j)` times the scale. -/
def had (i j : Fin 128) : EReal :=
  FloatOps.sitofp (F := Ideal) FTy.f32
    (IntOp.subi 1#32 (IntOp.muli 2#32 (IntOp.andi (IntOp.ctpop (IntOp.andi (BitVec.ofNat 32 i.val) (BitVec.ofNat 32 j.val))) 1#32)))
    * Ideal.ofBits FTy.f32 1035273459#32

/-- The signed 4-bit code a packed byte holds: the low one at `p = 0`, the high one otherwise. -/
def code (w : BitVec 8) (p : ℕ) : BitVec 32 :=
  if p < 1 then ((w.setWidth 32) <<< 28).sshiftRight 28 else ((w.setWidth 32) <<< 24).sshiftRight 28

/-- The code as a number. -/
def codeF (w : BitVec 8) (p : ℕ) : EReal := ((((code w p).toInt : ℤ) : ℝ) : EReal)

/-- Activation `(b, k)` after the rotation of its block of 128 columns. -/
def xr (X : Fin 32 → Fin 10368 → EReal) (b : Fin 32) (k : Fin 10368) : EReal :=
  ∑ j : Fin 128, X b ⟨128 * (k.val / 128) + j.val, by have := k.isLt; have := j.isLt; omega⟩ * had j ⟨k.val % 128, by omega⟩

/-- The term of column `k` in result `n`: rotated activation `x` at `k` times the dequantized weight. -/
def term (x : Fin 10368 → EReal) (W : Fin 5184 → BitVec 8) (S : Fin 81 → EReal) (k : Fin 10368) : EReal :=
  x k * (codeF (W ⟨k.val / 2, by have := k.isLt; omega⟩) (k.val % 2) * S ⟨k.val / 128, by have := k.isLt; omega⟩)

/-- A result: the sum over all columns. -/
def out (x : Fin 10368 → EReal) (W : Fin 5184 → BitVec 8) (S : Fin 81 → EReal) : EReal := ∑ k : Fin 10368, term x W S k

/-- A sum over `m * n` indices, as `m` runs of `n`. -/
theorem sum_runs (m n N : ℕ) (h : m * n = N) (T : Fin N → EReal) :
    ∑ k, T k = ∑ a : Fin m, ∑ b : Fin n, T ⟨b.val + n * a.val, h ▸ (finProdFinEquiv (a, b)).isLt⟩ := by
  subst h
  rw [← finProdFinEquiv.sum_comp, Fintype.sum_prod_type]
  rfl

/-- A term, its indices named otherwise. -/
theorem term_eq (x : Fin 10368 → EReal) (W : Fin 5184 → BitVec 8) (S : Fin 81 → EReal) (k a : Fin 10368) (w : Fin 5184) (p : ℕ) (g : Fin 81)
    (ha : k.val = a.val) (hw : k.val / 2 = w.val) (hp : k.val % 2 = p) (hg : k.val / 128 = g.val) :
    term x W S k = x a * (codeF (W w) p * S g) := by
  obtain rfl := Fin.ext ha
  have ew : (⟨k.val / 2, hw ▸ w.isLt⟩ : Fin 5184) = w := Fin.ext hw
  have eg : (⟨k.val / 128, hg ▸ g.isLt⟩ : Fin 81) = g := Fin.ext hg
  unfold term
  rw [ew, eg, hp]

/-- The result grouped by blocks of 128 columns. -/
theorem out_blocks (x : Fin 10368 → EReal) (W : Fin 5184 → BitVec 8) (S : Fin 81 → EReal) :
    out x W S = ∑ g : Fin 81, ∑ r : Fin 128, x ⟨128 * g.val + r.val, by have := g.isLt; have := r.isLt; omega⟩
      * (codeF (W ⟨64 * g.val + r.val / 2, by have := g.isLt; have := r.isLt; omega⟩) (r.val % 2) * S g) := by
  unfold out
  rw [sum_runs 81 128 10368 (by norm_num)]
  refine Finset.sum_congr rfl fun g _ => Finset.sum_congr rfl fun r _ => ?_
  have hr := r.isLt
  exact term_eq x W S _ _ _ _ _ (show r.val + 128 * g.val = 128 * g.val + r.val by omega)
    (show (r.val + 128 * g.val) / 2 = 64 * g.val + r.val / 2 by omega) (show (r.val + 128 * g.val) % 2 = r.val % 2 by omega)
    (show (r.val + 128 * g.val) / 128 = g.val by omega)

/-- The result as the low codes' part plus the high codes' part. -/
theorem out_halves (x : Fin 10368 → EReal) (W : Fin 5184 → BitVec 8) (S : Fin 81 → EReal) :
    out x W S = (∑ k : Fin 5184, x ⟨2 * k.val, by have := k.isLt; omega⟩ * (codeF (W k) 0 * S ⟨k.val / 64, by have := k.isLt; omega⟩))
      + ∑ k : Fin 5184, x ⟨2 * k.val + 1, by have := k.isLt; omega⟩ * (codeF (W k) 1 * S ⟨k.val / 64, by have := k.isLt; omega⟩) := by
  unfold out
  rw [sum_runs 5184 2 10368 (by norm_num), ← Finset.sum_add_distrib]
  refine Finset.sum_congr rfl fun k _ => ?_
  rw [Fin.sum_univ_two]
  refine congrArg₂ (· + ·) ?_ ?_
  · exact term_eq x W S _ _ _ _ _ (show 0 + 2 * k.val = 2 * k.val by omega)
      (show (0 + 2 * k.val) / 2 = k.val by omega) (show (0 + 2 * k.val) % 2 = 0 by omega) (show (0 + 2 * k.val) / 128 = k.val / 64 by omega)
  · exact term_eq x W S _ _ _ _ _ (show 1 + 2 * k.val = 2 * k.val + 1 by omega)
      (show (1 + 2 * k.val) / 2 = k.val by omega) (show (1 + 2 * k.val) % 2 = 1 by omega) (show (1 + 2 * k.val) / 128 = k.val / 64 by omega)

end Cert.Math

end
-- ==== Proof.Value.lean ====
module

public import proofs.«01_k».proof.Proof.Spec3
public import proofs.«01_k».proof.Proof.Math
public import Idealize.ShloMosaic.Lib.Pointwise
public import Idealize.ShloMosaic.Lib.MatmulPlain

/-! What the body computes, at an index: the Hadamard matrix, the rotation, the codes, one step, the accumulator, the block of results. -/

@[expose] public section

noncomputable section

namespace Cert.KernelIdeal.Body

open Cert.KernelIdeal Cert.KernelIdeal.Gen
open Idealize.ShloMosaic
open Idealize.ShloMosaic.TcCoe Idealize.ShloMosaic.Tactic
open Cert.Math

/-- The printed Hadamard matrix at an index. -/
theorem had_apply (i j : Fin 128) : k0_pay2 (F := Ideal) (ix2 i j) = had i j := by
  pointwise [k0_pay2]
  rfl

/-- A rotated block at an index. -/
theorem rot_apply (x : Vec Ideal S32x128 .bf16) (b : Fin 32) (r : Fin 128) :
    rot (F := Ideal) x (ix2 b r) = ∑ j : Fin 128, (x (ix2 b j) * k0_pay2 (F := Ideal) (ix2 j r) : EReal) := by
  pointwise [rot]

/-- One block's contribution at an index. -/
theorem step_apply (acc : FVec Ideal S32x512 .f32) (w : Vec Ideal S64x512 .i8) (s : Vec Ideal S1x512 .bf16) (x : Vec Ideal S32x128 .bf16) (b : Fin 32) (n : Fin 512) :
    step (F := Ideal) acc w s x (ix2 b n) = acc (ix2 b n) + ∑ j : Fin 128, (x (ix2 b j) * (sitofp (F := Ideal) .bf16 (nib w) (ix2 j n) * s (ix2 0 n)) : EReal) := by
  pointwise [step]

/-- Narrowing a code to four bits keeps its value. -/
theorem code_toInt : ∀ (w : BitVec 8),
    ((IntOp.shrsi ArithUnit.vector (IntOp.shli ArithUnit.vector (w.setWidth 32) 28#32) 28#32).setWidth 4).toInt = (code w 0).toInt
    ∧ ((IntOp.shrsi ArithUnit.vector (IntOp.shli ArithUnit.vector (w.setWidth 32) 24#32) 28#32).setWidth 4).toInt = (code w 1).toInt := by
  decide +kernel

/-- The unpacked codes at an index, as numbers. -/
theorem nib_apply (w : Vec Ideal S64x512 .i8) (r : Fin 128) (n : Fin 512) :
    sitofp (F := Ideal) .bf16 (nib w) (ix2 r n) = codeF (w (ix2 ⟨r.val / 2, by have := r.isLt; omega⟩ n)) (r.val % 2) := by
  have h : nib w (ix2 r n) = BitVec.setWidth 4
      (if r.val % 2 < 1 then
        IntOp.shrsi ArithUnit.vector (IntOp.shli ArithUnit.vector (BitVec.setWidth 32 (w (ix2 ⟨r.val / 2, by have := r.isLt; omega⟩ n))) 28#32) 28#32
      else
        IntOp.shrsi ArithUnit.vector (IntOp.shli ArithUnit.vector (BitVec.setWidth 32 (w (ix2 ⟨r.val / 2, by have := r.isLt; omega⟩ n))) 24#32) 28#32) := by
    pointwise [nib]
    rfl
  show ((((nib w (ix2 r n)).toInt : ℤ) : ℝ) : EReal) = _
  rw [h]
  unfold codeF
  congr 2
  rcases Nat.mod_two_eq_zero_or_one r.val with e | e <;> rw [e]
  · exact (code_toInt _).1
  · exact (code_toInt _).2

/-- The rotated activations at an index. -/
theorem xrot_apply (X : S32x10368.Idx → Elt Ideal .bf16) (b : Fin 32) (k : Fin 10368) :
    xrot (F := Ideal) X (ix2 b k) = xr (fun b k => X (ix2 b k)) b k := by
  unfold xrot
  refine (rot_apply _ b (inBlk k)).trans (Finset.sum_congr rfl fun j _ => ?_)
  rw [had_apply]
  refine congrArg (· * _) (congrArg X ?_)
  funext a
  match a with
  | ⟨0, _⟩ => exact Fin.ext (show 0 + 1 * b.val = b.val by omega)
  | ⟨1, _⟩ => exact Fin.ext (show 128 * (k.val / 128) + 1 * j.val = 128 * (k.val / 128) + j.val by omega)

/-- The accumulator after `n` blocks, at an index: the sum of the first `n` blocks' contributions. -/
theorem acc_apply (W : S5184x512.Idx → Elt Ideal .i8) (S : S81x512.Idx → Elt Ideal .bf16) (X : S32x10368.Idx → Elt Ideal .bf16) (b : Fin 32) (c : Fin 512) :
    ∀ (n : ℕ) (h : n ≤ 81), acc (F := Ideal) W S X n h (ix2 b c)
      = ∑ g : Fin n, ∑ r : Fin 128, (X (ix2 b ⟨128 * g.val + r.val, by have := g.isLt; have := r.isLt; omega⟩)
        * (codeF (W (ix2 ⟨64 * g.val + r.val / 2, by have := g.isLt; have := r.isLt; omega⟩ c)) (r.val % 2) * S (ix2 ⟨g.val, by have := g.isLt; omega⟩ c)) : EReal)
  | 0, _ => by
    show Ideal.ofBits .f32 0#32 = _
    rw [Ideal.ofBits_zero_f32]; rfl
  | n + 1, h => by
    rw [Fin.sum_univ_castSucc]
    show step _ _ _ _ (ix2 b c) = _
    rw [step_apply, acc_apply W S X b c n]
    refine congrArg (_ + ·) (Finset.sum_congr rfl fun r _ => ?_)
    rw [nib_apply]
    have eX : (rX ⟨n, h⟩).toLoadRect.idx (ix2 b r) = ix2 b ⟨128 * n + r.val, by have := r.isLt; omega⟩ := by
      funext a
      match a with
      | ⟨0, _⟩ => exact Fin.ext (show 0 + 1 * b.val = b.val by omega)
      | ⟨1, _⟩ => exact Fin.ext (show 128 * n + 1 * r.val = 128 * n + r.val by omega)
    have eW : (rW ⟨n, h⟩).toLoadRect.idx (ix2 ⟨r.val / 2, by have := r.isLt; omega⟩ c) = ix2 ⟨64 * n + r.val / 2, by have := r.isLt; omega⟩ c := by
      funext a
      match a with
      | ⟨0, _⟩ => exact Fin.ext (show 64 * n + 1 * (r.val / 2) = 64 * n + r.val / 2 by omega)
      | ⟨1, _⟩ => exact Fin.ext (show 0 + 1 * c.val = c.val by omega)
    have eS : (rS ⟨n, h⟩).toLoadRect.idx (ix2 0 c) = ix2 ⟨n, h⟩ c := by
      funext a
      match a with
      | ⟨0, _⟩ => exact Fin.ext (show n + 1 * 0 = n by omega)
      | ⟨1, _⟩ => exact Fin.ext (show 0 + 1 * c.val = c.val by omega)
    exact congrArg₂ (· * ·) (congrArg X eX) (congrArg₂ (· * ·) (congrArg (fun i => codeF (W i) (r.val % 2)) eW) (congrArg S eS))

/-- A block of the result at an index: the plain sum, of that column's weights and scales alone. -/
theorem outF_apply (W : S5184x512.Idx → Elt Ideal .i8) (S : S81x512.Idx → Elt Ideal .bf16) (X : S32x10368.Idx → Elt Ideal .bf16) (b : Fin 32) (n : Fin 512) :
    outF (F := Ideal) W S (xrot X) (ix2 b n)
      = out (xr (fun b k => X (ix2 b k)) b) (fun k => W (ix2 k n)) (fun g => S (ix2 g n)) := by
  rw [out_blocks]
  refine (acc_apply W S (xrot X) b n 81 (Nat.le_refl 81)).trans ?_
  refine Finset.sum_congr rfl fun g _ => Finset.sum_congr rfl fun r _ => ?_
  rw [xrot_apply]

end Cert.KernelIdeal.Body

end
-- ==== Proof.IdealRun.lean ====
module

public import proofs.«01_k».proof.Proof.Value
public import proofs.«01_k».proof.Defs
public import Idealize.ShloMosaic.Lib.Pipeline.ValueKit

/-! The result array in plain sums, and that each block the body leaves agrees with it inside the array. -/

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Math

local notation "𝕄" => MT nD τ sig Unit (Elt Ideal) ℕ (UR sig nD τ) ℕ

variable (m : (ℓ : Loc nD τ sig) → Buf (Elt Ideal) ℓ) (ρ : Dev nD → PrngReg)

/-- The activations the region finds. -/
def inX (c : Dev nD) : S32x10368.Idx → Elt Ideal .bf16 := V m c main_v0

/-- The packed weights the region finds. -/
def inW (c : Dev nD) : S5184x23168.Idx → Elt Ideal .i8 := V m c main_arg1

/-- The scales the region finds. -/
def inS (c : Dev nD) : S81x23168.Idx → Elt Ideal .bf16 := V m c main_arg2

/-- The result array the region leaves. -/
def res (c : Dev nD) : S32x23168.Idx → EReal := fun i =>
  out (xr (fun b k => inX m c (ix2 b k)) (i 0)) (fun k => inW m c (ix2 k (i 1))) (fun g => inS m c (ix2 g (i 1)))

/-- The cut input buffers at their blocks, filled out past the array's end with zero words. -/
@[irreducible] def fill1 (c : Dev nD) (t : Fin cfg0.N) : (cfg0.win 1).block.Idx → Elt Ideal (cfg0.win 1).elt :=
  (cfg0.win 1).fill (cfg0.grid.coords t) (fun _ => (0#8 : BitVec 8)) (iblk m c 1 t)

/-- The scales' buffer, filled out the same way. -/
@[irreducible] def fill2 (c : Dev nD) (t : Fin cfg0.N) : (cfg0.win 2).block.Idx → Elt Ideal (cfg0.win 2).elt :=
  (cfg0.win 2).fill (cfg0.grid.coords t) (fun _ => (0 : EReal)) (iblk m c 2 t)

/-- The part of the filled-out weights' buffer inside the array is the block. -/
theorem cut_fill1 (c : Dev nD) (t : Fin cfg0.N) : (cfg0.win 1).cut (cfg0.grid.coords t) (fill1 m c t) = iblk m c 1 t := by
  unfold fill1; exact Window.cut_fill _ _ _ _

/-- The same of the scales. -/
theorem cut_fill2 (c : Dev nD) (t : Fin cfg0.N) : (cfg0.win 2).cut (cfg0.grid.coords t) (fill2 m c t) = iblk m c 2 t := by
  unfold fill2; exact Window.cut_fill _ _ _ _

/-- The result's block after the body at point `t`. -/
@[irreducible] def blkOut (c : Dev nD) (t : Fin cfg0.N) : (cfg0.win 3).block.Idx → Elt Ideal (cfg0.win 3).elt :=
  outF (F := Ideal) (fill1 m c t) (fill2 m c t) (xrot (inX m c))

/-- How much of a block is inside the array: all rows, and the same columns in the three cut windows. -/
theorem xsize_facts : ∀ t : Fin cfg0.N, (cfg0.win 1).xsize (cfg0.grid.coords t) 0 = 5184 ∧ (cfg0.win 2).xsize (cfg0.grid.coords t) 0 = 81
    ∧ (cfg0.win 1).xsize (cfg0.grid.coords t) 1 = (cfg0.win 3).xsize (cfg0.grid.coords t) 1
    ∧ (cfg0.win 2).xsize (cfg0.grid.coords t) 1 = (cfg0.win 3).xsize (cfg0.grid.coords t) 1 := by
  decide +kernel

/-- The activations' one block lies at 0 at every point. -/
theorem index_facts_0 : ∀ t : Fin cfg0.N, win0_0.index t = ![0, 0] := by
  decide +kernel

/-- The weights' block of point `t` is column block `t`. -/
theorem index_facts_1 : ∀ t : Fin cfg0.N, win0_1.index t = ![0, t.val] := by
  decide +kernel

/-- The scales' block of point `t` is column block `t`. -/
theorem index_facts_2 : ∀ t : Fin cfg0.N, win0_2.index t = ![0, t.val] := by
  decide +kernel

/-- The result's block of point `t` is column block `t`. -/
theorem index_facts_3 : ∀ t : Fin cfg0.N, win0_3.index t = ![0, t.val] := by
  decide +kernel

/-- The whole-array window's block is the array. -/
theorem iblk_0 (c : Dev nD) (t : Fin cfg0.N) : iblk m c 0 t = inX m c := by
  funext y
  blk_simp [iblk]
  refine congrArg (inX m c) ?_
  blk_ext [index_facts_0 t]

/-- A cut weights buffer on the part inside the array, whatever fills the rest. -/
theorem fill_1 (c : Dev nD) (t : Fin cfg0.N) (d : (cfg0.win 1).block.Idx → Elt Ideal (cfg0.win 1).elt) (k : Fin 5184) (n : Fin 512)
    (hn : n.val < (cfg0.win 3).xsize (cfg0.grid.coords t) 1) (h : 512 * t.val + n.val < 23168) :
    (cfg0.win 1).fill (cfg0.grid.coords t) d (iblk m c 1 t) (ix2 k n) = inW m c (ix2 k ⟨512 * t.val + n.val, h⟩) := by
  have hm : (cfg0.win 1).moved (cfg0.grid.coords t) (ix2 k n) = true := by
    rw [Window.moved_iff]
    intro a
    match a with
    | ⟨0, _⟩ => exact lt_of_lt_of_eq k.isLt (xsize_facts t).1.symm
    | ⟨1, _⟩ => exact lt_of_lt_of_eq hn (xsize_facts t).2.2.1.symm
  unfold Window.fill
  rw [dif_pos hm]
  blk_simp [iblk]
  refine congrArg (inW m c) ?_
  blk_ext [index_facts_1 t]

/-- A cut scales buffer on the part inside the array, whatever fills the rest. -/
theorem fill_2 (c : Dev nD) (t : Fin cfg0.N) (d : (cfg0.win 2).block.Idx → Elt Ideal (cfg0.win 2).elt) (k : Fin 81) (n : Fin 512)
    (hn : n.val < (cfg0.win 3).xsize (cfg0.grid.coords t) 1) (h : 512 * t.val + n.val < 23168) :
    (cfg0.win 2).fill (cfg0.grid.coords t) d (iblk m c 2 t) (ix2 k n) = inS m c (ix2 k ⟨512 * t.val + n.val, h⟩) := by
  have hm : (cfg0.win 2).moved (cfg0.grid.coords t) (ix2 k n) = true := by
    rw [Window.moved_iff]
    intro a
    match a with
    | ⟨0, _⟩ => exact lt_of_lt_of_eq k.isLt (xsize_facts t).2.1.symm
    | ⟨1, _⟩ => exact lt_of_lt_of_eq hn (xsize_facts t).2.2.2.symm
  unfold Window.fill
  rw [dif_pos hm]
  blk_simp [iblk]
  refine congrArg (inS m c) ?_
  blk_ext [index_facts_2 t]

/-- The part of a result block inside the array reads nothing past the array's end: it is the result array's block. -/
theorem cut_out (c : Dev nD) (t : Fin cfg0.N) (d1 : (cfg0.win 1).block.Idx → Elt Ideal (cfg0.win 1).elt)
    (d2 : (cfg0.win 2).block.Idx → Elt Ideal (cfg0.win 2).elt) :
    (cfg0.win 3).cut (cfg0.grid.coords t) (outF (F := Ideal) ((cfg0.win 1).fill (cfg0.grid.coords t) d1 (iblk m c 1 t))
      ((cfg0.win 2).fill (cfg0.grid.coords t) d2 (iblk m c 2 t)) (xrot (inX m c)))
    = fun y => res m c (((cfg0.win 3).blk t).view.emb y) := by
  funext y
  have hb : (y 0).val < 32 := ((cfg0.win 3).xinj (cfg0.grid.coords t) y 0).isLt
  have hn : (y 1).val < (cfg0.win 3).xsize (cfg0.grid.coords t) 1 := (y 1).isLt
  have hn' : (y 1).val < 512 := ((cfg0.win 3).xinj (cfg0.grid.coords t) y 1).isLt
  have e0 : ((((cfg0.win 3).blk t).view.emb y) 0).val = (y 0).val := by blk_simp [index_facts_3 t]
  have e1 : ((((cfg0.win 3).blk t).view.emb y) 1).val = 512 * t.val + (y 1).val := by blk_simp [index_facts_3 t]; omega
  have h : 512 * t.val + (y 1).val < 23168 := e1 ▸ ((((cfg0.win 3).blk t).view.emb y) 1).isLt
  have hy : (cfg0.win 3).xinj (cfg0.grid.coords t) y = ix2 ⟨(y 0).val, hb⟩ ⟨(y 1).val, hn'⟩ := by
    funext a
    match a with
    | ⟨0, _⟩ => rfl
    | ⟨1, _⟩ => rfl
  show outF (F := Ideal) _ _ _ ((cfg0.win 3).xinj (cfg0.grid.coords t) y) = _
  rw [hy, outF_apply]
  have f0 : (((cfg0.win 3).blk t).view.emb y) 0 = (⟨(y 0).val, hb⟩ : Fin 32) := Fin.ext e0
  have f1 : (((cfg0.win 3).blk t).view.emb y) 1 = (⟨512 * t.val + (y 1).val, h⟩ : Fin 23168) := Fin.ext e1
  unfold res
  rw [f0, f1]
  congr 1
  · funext k; exact fill_1 m c t d1 k ⟨(y 1).val, hn'⟩ hn h
  · funext k; exact fill_2 m c t d2 k ⟨(y 1).val, hn'⟩ hn h

/-- The part of the result's block inside the array holds the sums at the block's place. -/
theorem cut_blkOut (c : Dev nD) (t : Fin cfg0.N) :
    (cfg0.win 3).cut (cfg0.grid.coords t) (blkOut m c t) = fun y => res m c (((cfg0.win 3).blk t).view.emb y) := by
  unfold blkOut fill1 fill2; exact cut_out m c t _ _

end Cert.KernelIdeal.Body

end
-- ==== Proof.IdealBody.lean ====
module

public import proofs.«01_k».proof.Proof.IdealRun
public import proofs.«01_k».proof.Defs
public import Idealize.ShloMosaic.Lib.Pipeline.ValueKit

/-! The pipeline's data over the extended reals, and the body's obligation at every grid point. -/

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Math

local notation "𝕄" => MT nD τ sig Unit (Elt Ideal) ℕ (UR sig nD τ) ℕ

variable (m : (ℓ : Loc nD τ sig) → Buf (Elt Ideal) ℓ) (ρ : Dev nD → PrngReg)

/-- Between points the scratch reads the rotated activations once a point has run. -/
def Phi (c : Dev nD) (t : Fin (cfg0.N + 1)) : sProp 𝕄 :=
  iprop((∃ X, ⌜t.val ≠ 0 → X = xrot (inX m c)⌝ ∗ owns (c : Thread nD τ) (Memref.whole cc0_scratch0) fullShare X) ∗ ∃ r : PrngReg, prngReg c r)

/-- The proof data: the arrays at what the launch finds; after the body each input buffer at its block (filled out past
    the array's end with a word nothing reads) and the result's buffer at the result's block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => fill1 m c t
    | ⟨2, _⟩ => fill2 m c t
    | ⟨3, _⟩ => blkOut m c t
  Φ t := Phi m c t
  q _ := fullShare
  owed _ := 0

/-- What the body finds in each input buffer: its block, any words past the array's end. -/
theorem before_0 (c : Dev nD) (t : Fin cfg0.N) (d) : (dats m 0 c).before 0 t d = iblk m c 0 t :=
  before0_0_of m (dats m 0 c) rfl (fun _ => rfl) t d

/-- The packed weights' buffer before the body: the block, any words past the array's end. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl

/-- The scales' buffer before the body, likewise. -/
theorem before_2 (c : Dev nD) (t : Fin cfg0.N) (d) :
    (dats m 0 c).before 2 t d = (cfg0.win 2).fill (cfg0.grid.coords t) d (iblk m c 2 t) := by
  unfold Dat.before; rw [if_pos (fetch0_2 t)]; rfl

/-- What the body leaves in the cut buffers, on the part inside the array: the block. -/
theorem cut_after_1 (c : Dev nD) (t : Fin cfg0.N) : (cfg0.win 1).cut (cfg0.grid.coords t) ((dats m 0 c).after 1 t) = iblk m c 1 t :=
  cut_fill1 m c t

/-- The same of the scales. -/
theorem cut_after_2 (c : Dev nD) (t : Fin cfg0.N) : (cfg0.win 2).cut (cfg0.grid.coords t) ((dats m 0 c).after 2 t) = iblk m c 2 t :=
  cut_fill2 m c t

/-- What the body leaves in the result's buffer, on the part inside the array: the sums at the block's place. -/
theorem cut_after_3 (c : Dev nD) (t : Fin cfg0.N) :
    (cfg0.win 3).cut (cfg0.grid.coords t) ((dats m 0 c).after 3 t) = fun y => res m c (((cfg0.win 3).blk t).view.emb y) :=
  cut_blkOut m c t

/-- The body's test holds at grid point 0 alone. -/
theorem cond_facts : ∀ t : Fin cfg0.N, cond (grid0.coords t) ↔ t.val = 0 := by
  decide +kernel

variable (c : Dev nD) (t : Fin cfg0.N)

/-- The body at any point, over the buffers as it finds them: the scratch ends at the rotated activations, the result's
    buffer at their product with the dequantized block. -/
theorem body_any (X1 : S5184x512.Idx → Elt Ideal .i8) (X2 : S81x512.Idx → Elt Ideal .bf16) (X4 : S32x10368.Idx → Elt Ideal .bf16)
    (h4 : t.val ≠ 0 → X4 = xrot (inX m c)) (E : Set ℕ) (Q : PUnit → sProp 𝕄) :
    iprop(owns (c : Thread nD τ) (st0_0 t) fullShare (inX m c) ∗ owns (c : Thread nD τ) (st0_1 t) fullShare X1 ∗ owns (c : Thread nD τ) (st0_2 t) fullShare X2
      ∗ (∃ X3, owns (c : Thread nD τ) (st0_3 t) fullShare X3) ∗ owns (c : Thread nD τ) (Memref.whole cc0_scratch0) fullShare X4
      ∗ (iprop(owns (c : Thread nD τ) (st0_0 t) fullShare (inX m c) ∗ owns (c : Thread nD τ) (st0_1 t) fullShare X1 ∗ owns (c : Thread nD τ) (st0_2 t) fullShare X2
          ∗ owns (c : Thread nD τ) (st0_3 t) fullShare (outF (F := Ideal) X1 X2 (xrot (inX m c)))
          ∗ owns (c : Thread nD τ) (Memref.whole cc0_scratch0) fullShare (xrot (inX m c))) -∗ Q ⟨⟩))
    ⊢ wp frame (wpE (defs₀ (F := Ideal)) Variants.none c none) E
        (cc0__body (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3))
          (Memref.whole cc0_scratch0) (Memref.isWhole_whole _)) Q := by
  by_cases ht : t.val = 0
  · iintro ⟨H0, H1, H2, H3, H4, Hk⟩
    iapply (sound_first c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) (inX m c) X1 X2 ((cond_facts t).mpr ht) E Q)
    isplitl [H0]; · iexact H0
    isplitl [H1]; · iexact H1
    isplitl [H2]; · iexact H2
    isplitl [H3]; · iexact H3
    isplitl [H4]; · iexists X4; iexact H4
    iexact Hk
  · obtain rfl := h4 ht
    exact sound_later c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) (inX m c) X1 X2 (fun h => ht ((cond_facts t).mp h)) _ E Q

/-- At every grid point the body keeps the input buffers, leaves the result's block and the rotated activations. -/
theorem body_obligation (c : Dev nD) : BodyObligationLoose (dats m 0 c) (defs₀ (F := Ideal)) Variants.none () Set.univ := fun t => by
  rw [bigSep_W0, bigSep_W0]
  simp only []
  rw [show (dats m 0 c).Φ t.castSucc = Phi m c t.castSucc from rfl, show (dats m 0 c).Φ t.succ = Phi m c t.succ from rfl,
    show (dats m 0 c).owesAt () t.succ = (dats m 0 c).owesAt () t.castSucc from rfl]
  unfold Phi
  iintro ⟨⟨⟨%X4, %e4, H4⟩, Hg⟩, Ho, ⟨%d0, H0⟩, ⟨%d1, H1⟩, ⟨%d2, H2⟩, ⟨%d3, H3⟩⟩
  rw [before_0, before_1, before_2, iblk_0]
  iapply (body_any m c t ((cfg0.win 1).fill (cfg0.grid.coords t) d1 (iblk m c 1 t)) ((cfg0.win 2).fill (cfg0.grid.coords t) d2 (iblk m c 2 t)) X4 e4)
  isplitl [H0]; · iexact H0
  isplitl [H1]; · iexact H1
  isplitl [H2]; · iexact H2
  isplitl [H3]; · iexists _; iexact H3
  isplitl [H4]; · iexact H4
  iintro ⟨H0, H1, H2, H3, H4⟩
  isplitl [H4 Hg]
  · isplitl [H4]
    · iexists (xrot (inX m c)); isplitr; · ipureintro; exact fun _ => rfl
      iexact H4
    iexact Hg
  isplitl [Ho]; · iexact Ho
  isplitl [H0]
  · change _ ⊢ owns (c : Thread nD τ) (st0_0 t) fullShare (iblk m c 0 t)
    rw [iblk_0]
  isplitl [H1]
  · iexists d1
    change _ ⊢ owns (c : Thread nD τ) (st0_1 t) fullShare ((cfg0.win 1).fill (cfg0.grid.coords t) d1 ((cfg0.win 1).cut (cfg0.grid.coords t) ((dats m 0 c).after 1 t)))
    rw [cut_after_1]
  isplitl [H2]
  · iexists d2
    change _ ⊢ owns (c : Thread nD τ) (st0_2 t) fullShare ((cfg0.win 2).fill (cfg0.grid.coords t) d2 ((cfg0.win 2).cut (cfg0.grid.coords t) ((dats m 0 c).after 2 t)))
    rw [cut_after_2]
  · iexists (outF (F := Ideal) ((cfg0.win 1).fill (cfg0.grid.coords t) d1 (iblk m c 1 t)) ((cfg0.win 2).fill (cfg0.grid.coords t) d2 (iblk m c 2 t)) (xrot (inX m c)))
    change _ ⊢ owns (c : Thread nD τ) (st0_3 t) fullShare ((cfg0.win 3).fill (cfg0.grid.coords t) _ ((cfg0.win 3).cut (cfg0.grid.coords t) ((dats m 0 c).after 3 t)))
    rw [cut_after_3, ← cut_out m c t d1 d2, Window.fill_cut]

/-- The result array after the run. -/
theorem arrAt_3 (c : Dev nD) : (dats m 0 c).arrAt 3 cfg0.N = res m c := by
  refine (dats m 0 c).arrAt_eq_of_covers 3 (res m c) (by decide +kernel) fun t hf y => ?_
  exact congrFun (cut_after_3 m c t) y

end Cert.KernelIdeal.Body

end
-- ==== Proof.IdealFrame.lean ====
module

public import proofs.«01_k».proof.Proof.IdealBody
public import proofs.«01_k».proof.Defs
public import Idealize.ShloMosaic.Lib.Pipeline.ValueKit

/-! The whole run of the idealized kernel: its result is the plain sum of its arguments. -/

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Math

local notation "𝕄" => MT nD τ sig Unit (Elt Ideal) ℕ (UR sig nD τ) ℕ

variable (m : (ℓ : Loc nD τ sig) → Buf (Elt Ideal) ℓ) (ρ : Dev nD → PrngReg)

/-- Dropping the axis of one from the activations, at an index. -/
theorem drop_one (Z : S32x1x10368.Idx → EReal) (b : Fin 32) (k : Fin 10368) :
    shapeCast S32x10368 Z shapeCasts_S32x1x10368_S32x10368 (ix2 b k) = Z (ix3 b 0 k) := by
  pointwise

/-- Adding the axis of one to the result, at an index. -/
theorem add_one (Z : S32x23168.Idx → EReal) (i : S32x1x23168.Idx) :
    shapeCast S32x1x23168 Z shapeCasts_S32x23168_S32x1x23168 i = Z (ix2 (i 0) (i 2)) := by
  pointwise

/-- The line before the region, from any contents. -/
theorem before_region (σ : Valuation τ sig (Elt Ideal)) : StableHlo.after (List.flatten [hostOps0]) σ (Proc.devRef .tc main_v0)
    = shapeCast S32x10368 (σ (Proc.devRef .tc main_arg0) : S32x1x10368.Idx → EReal) shapeCasts_S32x1x10368_S32x10368 := by
  show StableHlo.after [_] _ _ = _
  rw [StableHlo.after_cons, StableHlo.after_nil, StableHlo.reshape_result]
  rfl

/-- The line after the region, from any contents. -/
theorem after_region (σ : Valuation τ sig (Elt Ideal)) : StableHlo.after (List.flatten [hostOps1]) σ (Proc.devRef .tc main_v2)
    = shapeCast S32x1x23168 (σ (Proc.devRef .tc main_v1) : S32x23168.Idx → EReal) shapeCasts_S32x23168_S32x1x23168 := by
  show StableHlo.after [_] _ _ = _
  rw [StableHlo.after_cons, StableHlo.after_nil, StableHlo.reshape_result]
  rfl

/-- The activations as launched. -/
def a0 (c : Dev nD) : S32x1x10368.Idx → EReal := m ((c : Thread nD τ).loc main_arg0)

/-- The packed weights as launched. -/
def a1 (c : Dev nD) : S5184x23168.Idx → BitVec 8 := m ((c : Thread nD τ).loc main_arg1)

/-- The scales as launched. -/
def a2 (c : Dev nD) : S81x23168.Idx → EReal := m ((c : Thread nD τ).loc main_arg2)

/-- The region finds the activations as launched, their axis of one dropped. -/
theorem inX_eq (c : Dev nD) (b : Fin 32) (k : Fin 10368) : inX m c (ix2 b k) = a0 m c (ix3 b 0 k) := by
  exact (congrFun (before_region (fun b => m (c, b))) (ix2 b k)).trans (drop_one _ b k)

/-- The region finds the packed weights as launched. -/
theorem inW_eq (c : Dev nD) : inW m c = a1 m c := V_main_arg1 m c

/-- The region finds the scales as launched. -/
theorem inS_eq (c : Dev nD) : inS m c = a2 m c := V_main_arg2 m c

/-- The final result: the plain sums, from the arguments as launched. -/
def ker (c : Dev nD) : S32x1x23168.Idx → EReal := fun i =>
  out (xr (fun b k => a0 m c (ix3 b 0 k)) (i 0)) (fun k => a1 m c (ix2 k (i 2))) (fun g => a2 m c (ix2 g (i 2)))

/-- The reshaped result after the line that follows the region. -/
theorem tail_eq (c : Dev nD) : Pipeline.afterTail₀ cfgs (dats m) 0 (V0 m) [hostOps1] c main_v2 = ker m c := by
  have ha : Pipeline.withArrays spec0 c (V0 m c) (fun w => (dats m 0 c).arrAt w cfg0.N) (Proc.devRef .tc main_v1) = res m c :=
    (Pipeline.withArrays_arr spec0 launch0.win.arr_inj c (V0 m c) _ 3).trans (arrAt_3 m c)
  unfold Pipeline.afterTail₀
  refine (after_region _).trans ?_
  funext i
  rw [add_one]
  refine (congrFun ha _).trans ?_
  unfold ker res
  rw [inW_eq, inS_eq]
  simp only [inX_eq]
  rfl

/-- From any memory with zero counters the program runs to its end; the arguments end as they were, the result as
    computed, and every counter is zero again. -/
theorem run : θ_run defs (onTc (τ := τ) (main (F := Ideal))) ⟨m, fun _ => 0, ρ⟩ (fun r => (∀ c : Dev nD,
      r.2.mem ((c.tc : Thread nD τ).loc main_v2) = ker m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_track cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      show Pipeline.ΦA spec0 c ⊢ Phi m c 0
      unfold Pipeline.ΦA Phi
      rw [scopedRest0_eq]
      iintro ⟨⟨%f, H⟩, Hg⟩
      isplitl [H]
      · iexists ((Memref.whole cc0_scratch0).view.read (Elt Ideal) f)
        isplitr; · ipureintro; exact fun h => absurd rfl h
        rw [owns_eq_pt c (Memref.whole cc0_scratch0) (Memref.isWhole_whole _)]
        iexists f; isplitr; · ipureintro; rfl
        iexact H
      iexact Hg)
    (hout := fun c => by
      show Phi m c (Fin.last cfg0.N) ⊢ Pipeline.ΦA spec0 c
      unfold Pipeline.ΦA Phi
      rw [scopedRest0_eq]
      iintro ⟨⟨%X, %e, H⟩, Hg⟩
      isplitl [H]
      · ihave H := (Entails.of_eq (owns_eq_pt c (Memref.whole cc0_scratch0) (Memref.isWhole_whole _) _)) $$ H
        icases H with ⟨%f, %e', H⟩
        iexists f
        iexact H
      iexact Hg)
    (Q' := _) (hQ' := fun r h => ⟨fun c => ⟨(Pipeline.FramePost.rest_eq h.1 c main_v2 (Pipeline.mem_restRefs_of main_v2 (by decide) (by decide))).trans (tail_eq m c),
      (Pipeline.FramePost.rest_eq h.1 c main_arg0 (Pipeline.mem_restRefs_of main_arg0 (by decide) (by decide))).trans (W_main_arg0 m (dats m) c),
      (Pipeline.FramePost.in_eq h.1 c 1 rfl).trans (V_main_arg1 m c),
      (Pipeline.FramePost.in_eq h.1 c 2 rfl).trans (V_main_arg2 m c)⟩, h.2⟩)

end Cert.KernelIdeal.Body

end
-- ==== Proof.RefValue.lean ====
module

public import proofs.«01_k».proof.Proof.Gen.ReferenceIdeal.Run
public import proofs.«01_k».proof.Proof.Math
public import Idealize.ShloMosaic.Lib.Pointwise

/-! What the reference computes, at an index: the scaled Hadamard matrix, the rotated activations, the two halves of the
    dequantized weights, and the result as the plain sum of `Cert.Math.out`. -/

@[expose] public section

noncomputable section

namespace Cert.ReferenceIdeal.Body

open Cert.ReferenceIdeal Cert.ReferenceIdeal.Gen
open Idealize.ShloMosaic Idealize.ShloMosaic.TcCoe
open Idealize.SL.Sem
open Cert.Math

/-- The scaled Hadamard matrix as the reference builds it. -/
def hadR : FVec Ideal S128x128 .f32 :=
  mulf (sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32))

/-- The activations rotated by a matrix `H`, block by block. -/
def rotR (A0 : FVec Ideal S32x1x10368 .bf16) (H : FVec Ideal S128x128 .f32) : FVec Ideal S32x1x10368 .bf16 :=
  truncf .bf16 (shapeCast S32x1x10368 (Host.dotGeneral (F := Ideal) dot_S32x1x81x128_S128x128_S32x1x81x128_3_0_012_1_n_n none (shapeCast S32x1x81x128 (extf .f32 A0 bitsLt_bf16_f32) shapeCasts_S32x1x10368_S32x1x81x128) H) shapeCasts_S32x1x81x128_S32x1x10368) bitsLt_bf16_f32

/-- The low half bytes' codes: a signed byte shifted left, then right. -/
def lowR (A1 : IVec S5184x23168 8) : FVec Ideal S5184x23168 .bf16 :=
  sitofp .bf16 (Host.shrsi (Host.shli (extsi 32 (id A1) natLt_8_32) (broadcastInDim S5184x23168 ![] bcast_S_S5184x23168 (constantI S_ 32 28#32))) (broadcastInDim S5184x23168 ![] bcast_S_S5184x23168 (constantI S_ 32 28#32)))

/-- The high half bytes' codes: a signed byte shifted right. -/
def highR (A1 : IVec S5184x23168 8) : FVec Ideal S5184x23168 .bf16 :=
  sitofp .bf16 (Host.shrsi (extsi 32 (id A1) natLt_8_32) (broadcastInDim S5184x23168 ![] bcast_S_S5184x23168 (constantI S_ 32 4#32)))

/-- Codes times their block's scales. -/
def deqR (C : FVec Ideal S5184x23168 .bf16) (A2 : FVec Ideal S81x23168 .bf16) : FVec Ideal S5184x23168 .bf16 :=
  shapeCast S5184x23168 (mulf (shapeCast S81x64x23168 C shapeCasts_S5184x23168_S81x64x23168) (broadcastInDim S81x64x23168 ![0, 1, 2] bcast_S81x1x23168_S81x64x23168_0_1_2 (broadcastInDim S81x1x23168 ![0, 2] bcast_S81x23168_S81x1x23168_0_2 A2))) shapeCasts_S81x64x23168_S5184x23168

/-- The two products added. -/
def sumR (X : FVec Ideal S32x1x10368 .bf16) (D0 D1 : FVec Ideal S5184x23168 .bf16) : FVec Ideal S32x1x23168 .bf16 :=
  truncf .bf16 (addf (Host.dotGeneral (F := Ideal) dot_S32x1x5184_S5184x23168_S32x1x23168_2_0_01_1_n_n none (Host.slice S32x1x5184 ![0, 0, 0] ![1, 1, 2] X slicesBy_S32x1x10368_S32x1x5184_0s1_0s1_0s2) D0)
    (Host.dotGeneral (F := Ideal) dot_S32x1x5184_S5184x23168_S32x1x23168_2_0_01_1_n_n none (Host.slice S32x1x5184 ![0, 0, 1] ![1, 1, 2] X slicesBy_S32x1x10368_S32x1x5184_0s1_0s1_1s2) D1)) bitsLt_bf16_f32

/-- The reference's matrix at an index is the Hadamard entry. -/
theorem hadR_apply (i j : Fin 128) : hadR (ix2 i j) = had i j := by
  pointwise [hadR]
  rfl

/-- The rotation at an index: a row of a block against a column of the matrix. -/
theorem rotR_apply (A0 : FVec Ideal S32x1x10368 .bf16) (H : FVec Ideal S128x128 .f32) (b : Fin 32) (k : Fin 10368) :
    rotR A0 H (ix3 b 0 k) = ∑ j : Fin 128, (A0 (ix3 b 0 ⟨128 * (k.val / 128) + j.val, by have := k.isLt; have := j.isLt; omega⟩) * H (ix2 j ⟨k.val % 128, by omega⟩) : EReal) := by
  pointwise [rotR]
  exact Finset.sum_congr rfl fun j _ => congrArg (fun t => A0 (ix3 b 0 t) * H (ix2 j ⟨k.val % 128, by omega⟩))
    (Fin.ext (by show k.val / 128 * 128 + j.val = 128 * (k.val / 128) + j.val; omega))

/-- The reference's shifts of a signed byte take out its two signed codes. -/
theorem codeR_toInt : ∀ (w : BitVec 8),
    (IntOp.shrsi ArithUnit.host (IntOp.shli ArithUnit.host (w.signExtend 32) 28#32) 28#32).toInt = (code w 0).toInt
    ∧ (IntOp.shrsi ArithUnit.host (w.signExtend 32) 4#32).toInt = (code w 1).toInt := by
  decide +kernel

/-- The low half bytes' codes at an index. -/
theorem lowR_apply (A1 : IVec S5184x23168 8) (k : Fin 5184) (n : Fin 23168) : lowR A1 (ix2 k n) = codeF (A1 (ix2 k n)) 0 := by
  unfold codeF
  rw [← (codeR_toInt _).1]
  pointwise [lowR]
  rfl

/-- The high half bytes' codes at an index. -/
theorem highR_apply (A1 : IVec S5184x23168 8) (k : Fin 5184) (n : Fin 23168) : highR A1 (ix2 k n) = codeF (A1 (ix2 k n)) 1 := by
  unfold codeF
  rw [← (codeR_toInt _).2]
  pointwise [highR]
  rfl

/-- The dequantized weights at an index: a code times the scale of its block. -/
theorem deqR_apply (C : FVec Ideal S5184x23168 .bf16) (A2 : FVec Ideal S81x23168 .bf16) (k : Fin 5184) (n : Fin 23168) :
    deqR C A2 (ix2 k n) = (C (ix2 k n) * A2 (ix2 ⟨k.val / 64, by have := k.isLt; omega⟩ n) : EReal) := by
  pointwise [deqR]

/-- The two products at an index: the even activations against one half, the odd ones against the other. -/
theorem sumR_apply (X : FVec Ideal S32x1x10368 .bf16) (D0 D1 : FVec Ideal S5184x23168 .bf16) (b : Fin 32) (n : Fin 23168) :
    sumR X D0 D1 (ix3 b 0 n) = ((∑ k : Fin 5184, X (ix3 b 0 ⟨2 * k.val, by have := k.isLt; omega⟩) * D0 (ix2 k n))
      + ∑ k : Fin 5184, X (ix3 b 0 ⟨2 * k.val + 1, by have := k.isLt; omega⟩) * D1 (ix2 k n) : EReal) := by
  pointwise [sumR]
  exact congrArg (_ + ·) (Finset.sum_congr rfl fun k _ => congrArg (fun t => X (ix3 b 0 t) * D1 (ix2 k n))
    (Fin.ext (by show 1 + 2 * k.val = 2 * k.val + 1; omega)))

/-- What the reference returns, of its arguments. -/
def outR (A0 : FVec Ideal S32x1x10368 .bf16) (A1 : IVec S5184x23168 8) (A2 : FVec Ideal S81x23168 .bf16) : FVec Ideal S32x1x23168 .bf16 :=
  sumR (rotR A0 hadR) (deqR (lowR A1) A2) (deqR (highR A1) A2)

/-- The reference's result at an index is the plain sum. -/
theorem outR_apply (A0 : FVec Ideal S32x1x10368 .bf16) (A1 : IVec S5184x23168 8) (A2 : FVec Ideal S81x23168 .bf16) (b : Fin 32) (n : Fin 23168) :
    outR A0 A1 A2 (ix3 b 0 n) = out (xr (fun b k => A0 (ix3 b 0 k)) b) (fun k => A1 (ix2 k n)) (fun g => A2 (ix2 g n)) := by
  have hx : ∀ k, rotR A0 hadR (ix3 b 0 k) = xr (fun b k => A0 (ix3 b 0 k)) b k := fun k => by
    rw [rotR_apply]
    unfold xr
    exact Finset.sum_congr rfl fun j _ => by rw [hadR_apply]
  unfold outR
  rw [sumR_apply, out_halves]
  refine congrArg₂ (· + ·) ?_ ?_
  · exact Finset.sum_congr rfl fun k _ => by rw [hx, deqR_apply, lowR_apply]
  · exact Finset.sum_congr rfl fun k _ => by rw [hx, deqR_apply, highR_apply]

/-- The same, as one function of the index. -/
theorem outR_eq (A0 : FVec Ideal S32x1x10368 .bf16) (A1 : IVec S5184x23168 8) (A2 : FVec Ideal S81x23168 .bf16) :
    outR A0 A1 A2 = fun i => out (xr (fun b k => A0 (ix3 b 0 k)) (i 0)) (fun k => A1 (ix2 k (i 2))) (fun g => A2 (ix2 g (i 2))) := by
  funext i
  have e : i = ix3 (i 0) 0 (i 2) := by
    funext a
    match a with
    | ⟨0, _⟩ => rfl
    | ⟨1, _⟩ => exact Fin.ext (by have := (i 1).isLt; show (i 1).val = 0; exact Nat.lt_one_iff.mp this)
    | ⟨2, _⟩ => rfl
  exact (congrArg (outR A0 A1 A2) e).trans (outR_apply A0 A1 A2 (i 0) (i 2))

/-- The reference run from any memory: the result is `outR` of the arguments, which stay as they were. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD, (r.2.mem ((c.tc : Thread nD τ).loc main_v46) = outR (m ((c.tc : Thread nD τ).loc main_arg0)) (m ((c.tc : Thread nD τ).loc main_arg1)) (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run (F := Ideal) m ρ

end Cert.ReferenceIdeal.Body

end
-- ==== Proof.lean ====
module

public import proofs.«01_k».proof.Proof.Gen.ReferenceIdeal.Run
public import proofs.«01_k».proof.Proof.BitsFrame
public import proofs.«01_k».proof.Proof.IdealFrame
public import proofs.«01_k».proof.Proof.RefValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference terminates, leaves its arguments as they were and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Body.run m ρ)

/-- The idealized kernel terminates, leaves its arguments as they were and its semaphores at zero: its run, the value dropped. -/
theorem frame_ideal : Cert.quiescent_KernelIdeal := fun m ρ _ =>
  (θ_run Cert.KernelIdeal.defs _ _).mono (fun _ h => ⟨fun c => (h.1 c).2, h.2⟩) (Cert.KernelIdeal.Body.run m ρ)

/-- From arguments that agree, the idealized kernel and the reference end with the same result. -/
theorem same_value : Cert.algebraic_KernelIdeal_ReferenceIdeal := fun m ρ m' ρ' _ hargs =>
  ⟨Cert.KernelIdeal.Body.ker m,
    (θ_run Cert.KernelIdeal.defs _ _).mono (fun _ h => h.1) (Cert.KernelIdeal.Body.run m ρ),
    (θ_run Cert.ReferenceIdeal.defs _ _).mono
      (fun _ h c => ⟨(h c).1.trans (by
        rw [(hargs c).1, (hargs c).2.1, (hargs c).2.2]
        exact Cert.ReferenceIdeal.Body.outR_eq _ _ _), (h c).2⟩)
      (Cert.ReferenceIdeal.Body.run m' ρ')⟩

/-- Every claim of the certificate. -/
theorem claim : Cert.Claim := ⟨Cert.Kernel.Gen.facts, Cert.KernelIdeal.Gen.facts, Cert.ReferenceIdeal.Gen.facts,
  Cert.Kernel.Body.frame, frame_ideal, frame_reference, trivial, same_value⟩

end Cert.Proof

end
